-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x12416 : Shape := ⟨3, ![4, 384, 12416]⟩
abbrev S6208x17792 : Shape := ⟨2, ![6208, 17792]⟩
abbrev S97x17792 : Shape := ⟨2, ![97, 17792]⟩
abbrev S1536x12416 : Shape := ⟨2, ![1536, 12416]⟩
abbrev S97x1x17792 : Shape := ⟨3, ![97, 1, 17792]⟩
abbrev S1536x17792 : Shape := ⟨2, ![1536, 17792]⟩
abbrev S6208x512 : Shape := ⟨2, ![6208, 512]⟩
abbrev S97x1x512 : Shape := ⟨3, ![97, 1, 512]⟩
abbrev S1536x512 : Shape := ⟨2, ![1536, 512]⟩
abbrev S1x1x512 : Shape := ⟨3, ![1, 1, 512]⟩
abbrev S1x512 : Shape := ⟨2, ![1, 512]⟩
abbrev S64x512 : Shape := ⟨2, ![64, 512]⟩
abbrev S16x512 : Shape := ⟨2, ![16, 512]⟩
abbrev S16x8x512 : Shape := ⟨3, ![16, 8, 512]⟩
abbrev S16x1x512 : Shape := ⟨3, ![16, 1, 512]⟩
abbrev S128x512 : Shape := ⟨2, ![128, 512]⟩
abbrev S1x128x512 : Shape := ⟨3, ![1, 128, 512]⟩
abbrev S1536x128 : Shape := ⟨2, ![1536, 128]⟩
abbrev S8x1x512 : Shape := ⟨3, ![8, 1, 512]⟩
abbrev S8x512 : Shape := ⟨2, ![8, 512]⟩
abbrev S512x512 : Shape := ⟨2, ![512, 512]⟩
abbrev S128x8x512 : Shape := ⟨3, ![128, 8, 512]⟩
abbrev S128x1x512 : Shape := ⟨3, ![128, 1, 512]⟩
abbrev S1024x512 : Shape := ⟨2, ![1024, 512]⟩
abbrev S8x128x512 : Shape := ⟨3, ![8, 128, 512]⟩
abbrev S1536x1024 : Shape := ⟨2, ![1536, 1024]⟩
abbrev S4x384x17792 : Shape := ⟨3, ![4, 384, 17792]⟩

abbrev nBuf : Space → Nat
  | .hbm => 7
  | .vmem => 8
  | .smem => 0
  | _ => 0

abbrev bufTy : (tb : Table) → Fin (tcTables nBuf tb) → BufTy
  | .hbm, ⟨0, _⟩ => ⟨S4x384x12416, .bf16⟩
  | .hbm, ⟨1, _⟩ => ⟨S6208x17792, .i8⟩
  | .hbm, ⟨2, _⟩ => ⟨S97x17792, .bf16⟩
  | .hbm, ⟨3, _⟩ => ⟨S1536x12416, .bf16⟩
  | .hbm, ⟨4, _⟩ => ⟨S97x1x17792, .bf16⟩
  | .hbm, ⟨5, _⟩ => ⟨S1536x17792, .bf16⟩
  | .hbm, ⟨6, _⟩ => ⟨S4x384x17792, .bf16⟩
  | .local _ .vmem, ⟨0, _⟩ => ⟨S1536x12416, .bf16⟩
  | .local _ .vmem, ⟨1, _⟩ => ⟨S6208x512, .i8⟩
  | .local _ .vmem, ⟨2, _⟩ => ⟨S6208x512, .i8⟩
  | .local _ .vmem, ⟨3, _⟩ => ⟨S97x1x512, .bf16⟩
  | .local _ .vmem, ⟨4, _⟩ => ⟨S97x1x512, .bf16⟩
  | .local _ .vmem, ⟨5, _⟩ => ⟨S1536x512, .bf16⟩
  | .local _ .vmem, ⟨6, _⟩ => ⟨S1536x512, .bf16⟩
  | .local _ .vmem, ⟨7, _⟩ => ⟨S1536x512, .f32⟩
  | _, _ => ⟨S4x384x12416, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![35], ![false]⟩

def k0_mult1 : BitVec 32 :=
  let c6144_i32 : BitVec 32 := 6144#32
  c6144_i32
def k0_mult2 : BitVec 32 :=
  let c12288_i32 : BitVec 32 := 12288#32
  c12288_i32
@[reducible] def k0_t1_loop : Scf.Loop 32 :=
  let c0_i32 : BitVec 32 := 0#32
  let c12_i32 : BitVec 32 := 12#32
  let v34 : BitVec 32 := Scalar.addi c0_i32 c12_i32
  let c1_i32 : BitVec 32 := 1#32
  ⟨c0_i32, v34, c1_i32⟩
def k0_off1 (k0_t1 : Fin k0_t1_loop.trips) : Fin 3 → Nat :=
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v38 : BitVec 32 := Scalar.muli arg6 c1_i32_11
  let v39 : BitVec 32 := Scalar.addi c0_i32_12 v38
  let c8_i32 : BitVec 32 := 8#32
  let v41 : BitVec 32 := Scalar.muli v39 c8_i32
  let v42 : Index := Scalar.indexCast v41
  let c0_15 : Index := 0#32
  let c0_16 : Index := 0#32
  ![v42.toNat, 0, 0]
def k0_mult3 (k0_t1 : Fin k0_t1_loop.trips) : BitVec 32 :=
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v38 : BitVec 32 := Scalar.muli arg6 c1_i32_11
  let v39 : BitVec 32 := Scalar.addi c0_i32_12 v38
  let c8_i32 : BitVec 32 := 8#32
  let v41 : BitVec 32 := Scalar.muli v39 c8_i32
  let c128_i32 : BitVec 32 := 128#32
  let v45 : BitVec 32 := Scalar.muli v41 c128_i32
  let c0_i32_17 : BitVec 32 := 0#32
  let v47 : BitVec 1 := Scalar.cmpi .sgt v45 c0_i32_17
  let v48 : BitVec 32 := Scalar.extui v47
  let c0_i32_18 : BitVec 32 := 0#32
  let v49 : BitVec 1 := Scalar.cmpi .slt v45 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi v45 c2_i32
  let c0_i32_21 : BitVec 32 := 0#32
  let v59 : BitVec 1 := Scalar.cmpi .ne v58 c0_i32_21
  let v60 : BitVec 1 := Scalar.andi v57 v59
  let v46 : BitVec 32 := Scalar.divsi v45 c2_i32
  let c1_i32_22 : BitVec 32 := 1#32
  let v61 : BitVec 32 := Scalar.subi v46 c1_i32_22
  let v62 : BitVec 32 := Scalar.select v60 v61 v46
  v62
def k0_off2 (k0_t1 : Fin k0_t1_loop.trips) : Fin 2 → Nat :=
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v38 : BitVec 32 := Scalar.muli arg6 c1_i32_11
  let v39 : BitVec 32 := Scalar.addi c0_i32_12 v38
  let c8_i32 : BitVec 32 := 8#32
  let v41 : BitVec 32 := Scalar.muli v39 c8_i32
  let c128_i32 : BitVec 32 := 128#32
  let v45 : BitVec 32 := Scalar.muli v41 c128_i32
  let c0_i32_17 : BitVec 32 := 0#32
  let v47 : BitVec 1 := Scalar.cmpi .sgt v45 c0_i32_17
  let v48 : BitVec 32 := Scalar.extui v47
  let c0_i32_18 : BitVec 32 := 0#32
  let v49 : BitVec 1 := Scalar.cmpi .slt v45 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi v45 c2_i32
  let c0_i32_21 : BitVec 32 := 0#32
  let v59 : BitVec 1 := Scalar.cmpi .ne v58 c0_i32_21
  let v60 : BitVec 1 := Scalar.andi v57 v59
  let v46 : BitVec 32 := Scalar.divsi v45 c2_i32
  let c1_i32_22 : BitVec 32 := 1#32
  let v61 : BitVec 32 := Scalar.subi v46 c1_i32_22
  let v62 : BitVec 32 := Scalar.select v60 v61 v46
  let v63 : BitVec 32 := v62
  let v64 : Index := Scalar.indexCast v63
  let c0_23 : Index := 0#32
  ![v64.toNat, 0]
def k0_mult4 (k0_t1 : Fin k0_t1_loop.trips) : BitVec 32 :=
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v38 : BitVec 32 := Scalar.muli arg6 c1_i32_11
  let v39 : BitVec 32 := Scalar.addi c0_i32_12 v38
  let c8_i32 : BitVec 32 := 8#32
  let v41 : BitVec 32 := Scalar.muli v39 c8_i32
  let c128_i32_28 : BitVec 32 := 128#32
  let v87 : BitVec 32 := Scalar.muli v41 c128_i32_28
  v87
def k0_off3 (k0_t1 : Fin k0_t1_loop.trips) : Fin 2 → Nat :=
  let c0_29 : Index := 0#32
  let c0_i32_12 : BitVec 32 := 0#32
  let c0_i32 : BitVec 32 := 0#32
  let c1_i32 : BitVec 32 := 1#32
  let arg6 : BitVec 32 := Scf.iv c0_i32 c1_i32 k0_t1
  let c1_i32_11 : BitVec 32 := 1#32
  let v38 : BitVec 32 := Scalar.muli arg6 c1_i32_11
  let v39 : BitVec 32 := Scalar.addi c0_i32_12 v38
  let c8_i32 : BitVec 32 := 8#32
  let v41 : BitVec 32 := Scalar.muli v39 c8_i32
  let c128_i32_28 : BitVec 32 := 128#32
  let v87 : BitVec 32 := Scalar.muli v41 c128_i32_28
  let v88 : BitVec 32 := v87
  let v89 : Index := Scalar.indexCast v88
  ![0, v89.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x12416 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6208x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S97x1x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x384x12416 : Shape := ⟨3, ![4, 384, 12416]⟩
abbrev S6208x17792 : Shape := ⟨2, ![6208, 17792]⟩
abbrev S97x17792 : Shape := ⟨2, ![97, 17792]⟩
abbrev S97x64x17792 : Shape := ⟨3, ![97, 64, 17792]⟩
abbrev S_ : Shape := ⟨0, ![]⟩
abbrev S4x384x6208 : Shape := ⟨3, ![4, 384, 6208]⟩
abbrev S4x384x17792 : Shape := ⟨3, ![4, 384, 17792]⟩

abbrev nBuf : Space → Nat
  | .hbm => 28
  | .vmem => 0
  | .smem => 0
  | _ => 0

abbrev bufTy : (tb : Table) → Fin (tcTables nBuf tb) → BufTy
  | .hbm, ⟨0, _⟩ => ⟨S4x384x12416, .bf16⟩
  | .hbm, ⟨1, _⟩ => ⟨S6208x17792, .i8⟩
  | .hbm, ⟨2, _⟩ => ⟨S97x17792, .bf16⟩
  | .hbm, ⟨3, _⟩ => ⟨S97x64x17792, .bf16⟩
  | .hbm, ⟨4, _⟩ => ⟨S6208x17792, .bf16⟩
  | .hbm, ⟨5, _⟩ => ⟨S6208x17792, .i32⟩
  | .hbm, ⟨6, _⟩ => ⟨S_, .i32⟩
  | .hbm, ⟨7, _⟩ => ⟨S6208x17792, .i32⟩
  | .hbm, ⟨8, _⟩ => ⟨S6208x17792, .i32⟩
  | .hbm, ⟨9, _⟩ => ⟨S_, .i32⟩
  | .hbm, ⟨10, _⟩ => ⟨S6208x17792, .i32⟩
  | .hbm, ⟨11, _⟩ => ⟨S6208x17792, .i32⟩
  | .hbm, ⟨12, _⟩ => ⟨S6208x17792, .bf16⟩
  | .hbm, ⟨13, _⟩ => ⟨S_, .bf16⟩
  | .hbm, ⟨14, _⟩ => ⟨S6208x17792, .bf16⟩
  | .hbm, ⟨15, _⟩ => ⟨S6208x17792, .bf16⟩
  | .hbm, ⟨16, _⟩ => ⟨S6208x17792, .bf16⟩
  | .hbm, ⟨17, _⟩ => ⟨S6208x17792, .bf16⟩
  | .hbm, ⟨18, _⟩ => ⟨S_, .bf16⟩
  | .hbm, ⟨19, _⟩ => ⟨S6208x17792, .bf16⟩
  | .hbm, ⟨20, _⟩ => ⟨S6208x17792, .bf16⟩
  | .hbm, ⟨21, _⟩ => ⟨S6208x17792, .bf16⟩
  | .hbm, ⟨22, _⟩ => ⟨S4x384x6208, .bf16⟩
  | .hbm, ⟨23, _⟩ => ⟨S4x384x17792, .f32⟩
  | .hbm, ⟨24, _⟩ => ⟨S4x384x6208, .bf16⟩
  | .hbm, ⟨25, _⟩ => ⟨S4x384x17792, .f32⟩
  | .hbm, ⟨26, _⟩ => ⟨S4x384x17792, .f32⟩
  | .hbm, ⟨27, _⟩ => ⟨S4x384x17792, .bf16⟩
  | _, _ => ⟨S4x384x12416, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Nibble.lean ====
module

public import Idealize.ShloMosaic.Lib.Pipeline.Value
public import Idealize.ShloMosaic.Lib.BitcastFour

/-! The four-bit codes: two to a byte, and how the kernel's word arithmetic and the reference's byte arithmetic read
    the same one. -/

@[expose] public section

set_option maxRecDepth 16384

noncomputable section

open Idealize.ShloMosaic

namespace Cert.Nibble

/-- The code of input feature `j` in the byte that holds it: the low half of the byte for an even feature, the high
    half for an odd one. -/
def nib (b : BitVec 8) (j : ℕ) : BitVec 4 := b.extractLsb' (4 * (j % 2)) 4

/-- The integer a code stands for: the code less eight. -/
def code (b : BitVec 8) (j : ℕ) : ℤ := ((nib b j).toNat : ℤ) - 8

/-- Flipping the top bit of a four-bit code and reading it as a signed number subtracts eight. -/
theorem toInt_flip : ∀ c : BitVec 4, (c ^^^ 8#4).toInt = (c.toNat : ℤ) - 8 := by decide

/-- The bits of the mask that flips the top bit of each of the eight codes of a word. -/
theorem mask_bit (j p : ℕ) (hj : j < 8) (hp : p < 4) :
    (2290649224#32 : BitVec 32).getLsbD (4 * j + p) = (8#4 : BitVec 4).getLsbD p := by
  interval_cases j <;> interval_cases p <;> rfl

/-- Code `j` of a word: flip the top bits, shift the code to the top of the word, shift it back down with its sign,
    and keep four bits. -/
def wordCode (W : BitVec 32) (j : ℕ) : BitVec 4 :=
  (((W ^^^ 2290649224#32) <<< (28 - 4 * j)).sshiftRight 28).setWidth 4

/-- Code `j` of a word is the code of the byte that holds it, its top bit flipped. -/
theorem wordCode_eq (W : BitVec 32) (j : ℕ) (hj : j < 8) (b : BitVec 8)
    (h : ∀ p < 4, W.getLsbD (4 * j + p) = b.getLsbD (4 * (j % 2) + p)) : wordCode W j = nib b j ^^^ 8#4 := by
  apply BitVec.eq_of_getLsbD_eq
  intro p hp
  have hm := mask_bit j p hj hp
  have hW := h p hp
  have e : 28 + p - (28 - 4 * j) = 4 * j + p := by omega
  simp only [wordCode, nib, BitVec.getLsbD_setWidth, BitVec.getLsbD_sshiftRight, BitVec.getLsbD_shiftLeft,
    BitVec.getLsbD_xor, BitVec.getLsbD_extractLsb', e, hm, hW]
  have h1 : ¬ (32 ≤ p) := by omega
  have h2 : 28 + p < 32 := by omega
  have h3 : ¬ (28 + p < 28 - 4 * j) := by omega
  simp [h1, h2, h3, hp]

/-- The low half of a byte, as the reference takes it: widened and masked. -/
theorem low_half : ∀ b : BitVec 8, (IntOp.andi (b.setWidth 32) 15#32).toInt = ((nib b 0).toNat : ℤ) := by decide +kernel

/-- The high half of a byte, as the reference takes it: widened and shifted down. -/
theorem high_half : ∀ b : BitVec 8, ((b.setWidth 32).sshiftRight 4).toInt = ((nib b 1).toNat : ℤ) := by decide +kernel

/-- Only the parity of the feature matters. -/
theorem nib_mod (b : BitVec 8) (i j : ℕ) (h : i % 2 = j % 2) : nib b i = nib b j := by
  unfold nib; rw [h]

end Cert.Nibble
-- ==== Proof.Spec.lean ====
/- What both programs compute, over the extended reals: entry `(b, r, n)` of the result is the sum over the 12416 input
   features of the input times the feature's dequantized weight, which is its four-bit code less eight, times the scale
   of its group of 128 features. -/
module

public import proofs.«01_k».proof.Proof.Nibble
public import Idealize.ShloMosaic.PureOps.Ideal.Laws

@[expose] public section

noncomputable section

open Idealize.ShloMosaic Idealize.ShloMosaic.ValueIdx

namespace Cert.Spec

/-- The dequantized weight of feature `k`: the code in its byte `b`, less eight, times its group's scale `s`. -/
def weight (b : BitVec 8) (s : EReal) (k : ℕ) : EReal := ((Nibble.code b k : ℝ) : EReal) * s

/-- What feature `k` contributes to entry `(b, r, n)`. -/
def term (x0 : (⟨3, ![4, 384, 12416]⟩ : Shape).Idx → EReal) (x1 : (⟨2, ![6208, 17792]⟩ : Shape).Idx → BitVec 8)
    (x2 : (⟨2, ![97, 17792]⟩ : Shape).Idx → EReal) (b : Fin 4) (r : Fin 384) (n : Fin 17792) (k : ℕ) : EReal :=
  if h : k < 12416 then
    x0 (ix3 b r (⟨k, h⟩ : Fin 12416)) *
      weight (x1 (ix2 (⟨k / 2, by omega⟩ : Fin 6208) n)) (x2 (ix2 (⟨k / 128, by omega⟩ : Fin 97) n)) k
  else 0

/-- The result. -/
def out (x0 : (⟨3, ![4, 384, 12416]⟩ : Shape).Idx → EReal) (x1 : (⟨2, ![6208, 17792]⟩ : Shape).Idx → BitVec 8)
    (x2 : (⟨2, ![97, 17792]⟩ : Shape).Idx → EReal) : (⟨3, ![4, 384, 17792]⟩ : Shape).Idx → EReal := fun i =>
  ∑ k ∈ Finset.range 12416, term x0 x1 x2 (i 0) (i 1) (i 2) k

/-- A sum over an even number of places is the sum over the even places plus the sum over the odd ones. -/
theorem sum_even_odd (f : ℕ → EReal) : ∀ m : ℕ,
    ∑ k ∈ Finset.range (2 * m), f k = ∑ k ∈ Finset.range m, f (2 * k) + ∑ k ∈ Finset.range m, f (2 * k + 1) := by
  intro m
  induction m with
  | zero => simp
  | succ m ih =>
    rw [show 2 * (m + 1) = 2 * m + 1 + 1 from rfl, Finset.sum_range_succ, Finset.sum_range_succ, ih,
      Finset.sum_range_succ, Finset.sum_range_succ, add_assoc, add_add_add_comm]

end Cert.Spec
-- ==== Proof.RefValue.lean ====
/- What the reference computes, read at an index: the even features against the low codes plus the odd features against
   the high codes, which together are the sum over all features. -/
module

public import proofs.«01_k».proof.Proof.Spec
public import proofs.«01_k».proof.Proof.Gen.ReferenceIdeal.Read
public import Idealize.ShloMosaic.Lib.Quiescent

@[expose] public section

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable (x0 : (⟨S4x384x12416, .bf16⟩ : BufTy).Contents (Elt Ideal)) (x1 : (⟨S6208x17792, .i8⟩ : BufTy).Contents (Elt Ideal))
  (x2 : (⟨S97x17792, .bf16⟩ : BufTy).Contents (Elt Ideal))

/-- The bf16 word the reference subtracts is eight. -/
theorem eight : (FloatOps.ofBits (F := Ideal) .bf16 0x4100#16 : EReal) = ((8 : ℝ) : EReal) := by
  show Ideal.ofBits .bf16 0x4100#16 = _
  simp [Ideal.ofBits, Ideal.ieee, -EReal.coe_mul]; norm_num

/-- An integer as a float, less eight. -/
theorem sub_eight (z : ℤ) : (((z : ℝ) : EReal) - ((8 : ℝ) : EReal)) = (((z - 8 : ℤ) : ℝ) : EReal) := by
  rw [← EReal.coe_sub]; push_cast; rfl

/-- The scale of byte row `k`: that of its group of 64 rows. -/
theorem scale_apply (k : Fin 6208) (n : Fin 17792) :
    val_main_v1 (F := Ideal) x2 (ix2 k n) = x2 (ix2 (⟨k.val / 64, by omega⟩ : Fin 97) n) := by
  rw [val_main_v1_apply, val_main_v0_apply]
  refine congrArg x2 (funext fun a => Fin.ext ?_)
  have hn := n.isLt
  match a with
  | ⟨0, _⟩ => show (k.val * 17792 + n.val) / 1138688 = k.val / 64; omega
  | ⟨1, _⟩ => show (k.val * 17792 + n.val) % 17792 = n.val; omega

/-- The weight the reference makes of the low half of byte row `k` is that of feature `2k`. -/
theorem low_apply (k : Fin 6208) (n : Fin 17792) :
    val_main_v10 (F := Ideal) x1 x2 (ix2 k n)
      = Spec.weight (x1 (ix2 k n)) (x2 (ix2 (⟨k.val / 64, by omega⟩ : Fin 97) n)) (2 * k.val) := by
  rw [val_main_v10_apply, val_main_v9_apply, val_main_v7_apply, val_main_v8_apply, val_main_cst_apply, val_main_v4_apply,
    val_main_v2_apply, val_main_v3_apply, val_main_c_apply, scale_apply, eight]
  refine congrArg (· * _) ?_
  show (((IntOp.andi ((x1 (ix2 k n)).setWidth 32) 15#32).toInt : ℝ) : EReal) - ((8 : ℝ) : EReal) = _
  rw [sub_eight, Nibble.low_half, Nibble.code, Nibble.nib_mod _ 0 (2 * k.val) (by omega)]

/-- The weight the reference makes of the high half of byte row `k` is that of feature `2k + 1`. -/
theorem high_apply (k : Fin 6208) (n : Fin 17792) :
    val_main_v14 (F := Ideal) x1 x2 (ix2 k n)
      = Spec.weight (x1 (ix2 k n)) (x2 (ix2 (⟨k.val / 64, by omega⟩ : Fin 97) n)) (2 * k.val + 1) := by
  rw [val_main_v14_apply, val_main_v13_apply, val_main_v11_apply, val_main_v12_apply, val_main_cst_1_apply, val_main_v6_apply,
    val_main_v2_apply, val_main_v5_apply, val_main_c_0_apply, scale_apply, eight]
  refine congrArg (· * _) ?_
  show (((((x1 (ix2 k n)).setWidth 32).sshiftRight 4).toInt : ℝ) : EReal) - ((8 : ℝ) : EReal) = _
  rw [sub_eight, Nibble.high_half, Nibble.code, Nibble.nib_mod _ 1 (2 * k.val + 1) (by omega)]

/-- The even features' inputs. -/
theorem even_apply (b : Fin 4) (r : Fin 384) (k : Fin 6208) :
    val_main_v15 (F := Ideal) x0 (ix3 b r k) = x0 (ix3 b r (⟨2 * k.val, by omega⟩ : Fin 12416)) := by
  unfold val_main_v15 Host.slice
  refine congrArg x0 (funext fun a => Fin.ext ?_)
  match a with
  | ⟨0, _⟩ => show 0 + 1 * b.val = b.val; omega
  | ⟨1, _⟩ => show 0 + 1 * r.val = r.val; omega
  | ⟨2, _⟩ => show 0 + 2 * k.val = 2 * k.val; omega

/-- The odd features' inputs. -/
theorem odd_apply (b : Fin 4) (r : Fin 384) (k : Fin 6208) :
    val_main_v17 (F := Ideal) x0 (ix3 b r k) = x0 (ix3 b r (⟨2 * k.val + 1, by omega⟩ : Fin 12416)) := by
  unfold val_main_v17 Host.slice
  refine congrArg x0 (funext fun a => Fin.ext ?_)
  match a with
  | ⟨0, _⟩ => show 0 + 1 * b.val = b.val; omega
  | ⟨1, _⟩ => show 0 + 1 * r.val = r.val; omega
  | ⟨2, _⟩ => show 1 + 2 * k.val = 2 * k.val + 1; omega

/-- An entry of the reference's result is the sum over all features. -/
theorem value_apply (b : Fin 4) (r : Fin 384) (n : Fin 17792) :
    val_main_v20 (F := Ideal) x0 x1 x2 (ix3 b r n) = Spec.out x0 x1 x2 (ix3 b r n) := by
  rw [val_main_v20_apply, val_main_v19_apply, val_main_v16_apply, val_main_v18_apply]
  show (∑ k : Fin 6208, _ : EReal) + (∑ k : Fin 6208, _ : EReal) = ∑ k ∈ Finset.range (2 * 6208), Spec.term x0 x1 x2 b r n k
  rw [Spec.sum_even_odd, Finset.sum_range, Finset.sum_range]
  refine congrArg₂ (· + ·) (Finset.sum_congr rfl fun k _ => ?_) (Finset.sum_congr rfl fun k _ => ?_)
  · have hk := k.isLt
    rw [show lidx_main_v16 (ix3 b r n) k = ix3 b r k from eq_ix3 _, show ridx_main_v16 (ix3 b r n) k = ix2 k n from eq_ix2 _,
      even_apply, low_apply, Spec.term, dif_pos (by omega : 2 * k.val < 12416),
      show (⟨(2 * k.val) / 2, by omega⟩ : Fin 6208) = k from Fin.ext (by show (2 * k.val) / 2 = k.val; omega),
      show (⟨(2 * k.val) / 128, by omega⟩ : Fin 97) = ⟨k.val / 64, by omega⟩ from
        Fin.ext (by show (2 * k.val) / 128 = k.val / 64; omega)]
  · have hk := k.isLt
    rw [show lidx_main_v18 (ix3 b r n) k = ix3 b r k from eq_ix3 _, show ridx_main_v18 (ix3 b r n) k = ix2 k n from eq_ix2 _,
      odd_apply, high_apply, Spec.term, dif_pos (by omega : 2 * k.val + 1 < 12416),
      show (⟨(2 * k.val + 1) / 2, by omega⟩ : Fin 6208) = k from Fin.ext (by show (2 * k.val + 1) / 2 = k.val; omega),
      show (⟨(2 * k.val + 1) / 128, by omega⟩ : Fin 97) = ⟨k.val / 64, by omega⟩ from
        Fin.ext (by show (2 * k.val + 1) / 128 = k.val / 64; omega)]

/-- The reference's result, as an array. -/
theorem value : val_main_v20 (F := Ideal) x0 x1 x2 = Spec.out x0 x1 x2 := funext fun i => by
  have e : i = ix3 (i 0) (i 1) (i 2) := eq_ix3 (n0 := 4) (n1 := 384) (n2 := 17792) i
  exact (congrArg (val_main_v20 (F := Ideal) x0 x1 x2) e).trans
    ((value_apply x0 x1 x2 (i 0) (i 1) (i 2)).trans (congrArg (Spec.out x0 x1 x2) e.symm))

/-- Every run of the reference ends with the sum over all features in the result, the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v20) = Spec.out (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans ((val_main_v20_eq _ _ _).trans (value _ _ _)), (h c).2⟩)
    (Cert.ReferenceIdeal.Value.run m ρ)

/-- The frame: every run of the reference ends, the arguments as launched, every counter at zero. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (run m ρ)

end Cert.ReferenceIdeal.RefValue
-- ==== Proof.KernelBody.lean ====
/- The kernel's body at one grid point, at any float values: run over its four operand buffers and its accumulator, each
   held whole, it terminates without a fault and hands every buffer back, the three inputs as they were. What it stores
   is not stated here. -/
module

public import proofs.«01_k».proof.Proof.Gen.Kernel.Frame
public import proofs.«01_k».proof.Proof.Gen.Kernel.Loops

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body from whole buffers: the inputs end as they began, the output block and the accumulator at some contents. -/
theorem sound_body (𝒱 : Variants) (c : Dev nD) (bd : Option 𝒱.V) (E : Set ℕ) (i : grid0.Coords)
    (arg1 : Memref sig .tc .vmem S1536x12416 .bf16) (harg1 : arg1.IsWhole) (arg2 : Memref sig .tc .vmem S6208x512 .i8) (harg2 : arg2.IsWhole)
    (arg3 : Memref sig .tc .vmem S97x1x512 .bf16) (harg3 : arg3.IsWhole) (arg4 : Memref sig .tc .vmem S1536x512 .bf16) (harg4 : arg4.IsWhole)
    (arg5 : Memref sig .tc .vmem S1536x512 .f32) (harg5 : arg5.IsWhole)
    (X1 : BufTy.Contents (Elt F) arg1.view.ty) (X2 : BufTy.Contents (Elt F) arg2.view.ty) (X3 : BufTy.Contents (Elt F) arg3.view.ty)
    (f4 : BufTy.Contents (Elt F) arg4.view.ty) (f5 : BufTy.Contents (Elt F) arg5.view.ty) :
    iprop((arg1.view.loc (c : Thread nD τ) ↦[arg1.view.set]{fullShare} X1) ∗ (arg2.view.loc (c : Thread nD τ) ↦[arg2.view.set]{fullShare} X2)
        ∗ (arg3.view.loc (c : Thread nD τ) ↦[arg3.view.set]{fullShare} X3) ∗ (arg4.view.loc (c : Thread nD τ) ↦[arg4.view.set]{fullShare} f4)
        ∗ (arg5.view.loc (c : Thread nD τ) ↦[arg5.view.set]{fullShare} f5) : sProp 𝕄)
      ⊢ wp frame (wpE (defs₀ (F := F)) 𝒱 (c : Thread nD τ) bd) E
          (cc0_int4_linear (F := F) i arg1 harg1 arg2 harg2 arg3 harg3 arg4 harg4 arg5 harg5) fun _ =>
          iprop((arg1.view.loc (c : Thread nD τ) ↦[arg1.view.set]{fullShare} X1) ∗ (arg2.view.loc (c : Thread nD τ) ↦[arg2.view.set]{fullShare} X2)
            ∗ (arg3.view.loc (c : Thread nD τ) ↦[arg3.view.set]{fullShare} X3)
            ∗ (∃ g : BufTy.Contents (Elt F) arg4.view.ty, arg4.view.loc (c : Thread nD τ) ↦[arg4.view.set]{fullShare} g)
            ∗ (∃ g : BufTy.Contents (Elt F) arg5.view.ty, arg5.view.loc (c : Thread nD τ) ↦[arg5.view.set]{fullShare} g)) := by
  iintro ⟨H1, H2, H3, H4, H5⟩
  simp only [cc0_int4_linear_eq_skeleton]; unfold cc0_int4_linear_skel
  sl_exec
  sl_step
  sl_close

end Cert.Kernel.Run

end
-- ==== Proof.KernelRun.lean ====
/- The frame of the kernel as it is compiled, at any float values: every run ends, the three argument arrays end as they
   began and every semaphore counter ends at zero. What the result holds is left open here, so the result's window is
   forgotten and the host line after the call is only known to write the result's own buffer. -/
module

public import proofs.«01_k».proof.Proof.KernelBody
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents the frame does not follow: the result's. -/
def fgt : Fin cfg0.W → Bool := fun w => w == 3

/-- The pipeline's data: the arrays as the call finds them, each input's buffer left at its block (the part of the buffer
    past the array's edge at anything), nothing said of the result's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => Pipeline.Dat.unnamed 3 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t
    = (cfg0.win 1).fill (cfg0.grid.coords t) (fun _ => Classical.arbitrary _) (iblk m c 1 t) := by dsimp only [dats]
theorem after0_2 (c : Dev nD) (t : Fin cfg0.N) : (dats m 0 c).after 2 t
    = (cfg0.win 2).fill (cfg0.grid.coords t) (fun _ => Classical.arbitrary _) (iblk m c 2 t) := by dsimp only [dats]

/-- Input 0's buffer holds its block when the body starts, -/
theorem before0_0 (c : Dev nD) (t : Fin cfg0.N) (d) : (dats m 0 c).before 0 t d = iblk m c 0 t :=
  before0_0_of m (dats m 0 c) (A_eq m c 0) (after0_0 m c) t d
/-- and inputs 1 and 2 hold theirs on the part the array has. -/
theorem before0_1 (c : Dev nD) (t : Fin cfg0.N) (d) : (dats m 0 c).before 1 t d
    = (cfg0.win 1).fill (cfg0.grid.coords t) d (iblk m c 1 t) :=
  ((dats m 0 c).before_fetched 1 t (fetch0_1 t) d).trans (by unfold Dat.fetched Dat.blockOf iblk; rw [A_eq])
theorem before0_2 (c : Dev nD) (t : Fin cfg0.N) (d) : (dats m 0 c).before 2 t d
    = (cfg0.win 2).fill (cfg0.grid.coords t) d (iblk m c 2 t) :=
  ((dats m 0 c).before_fetched 2 t (fetch0_2 t) d).trans (by unfold Dat.fetched Dat.blockOf iblk; rw [A_eq])

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ X, owns (c : Thread nD τ) (st0_3 t) fullShare X))

theorem sound_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, Window.cut_fill, Window.cut_fill,
    show (dats m 0 c).Φ t.castSucc = Pipeline.ΦA spec0 c from rfl]
  unfold Pipeline.ΦA
  rw [scopedRest0_eq]
  unfold owns
  iintro ⟨⟨⟨%fs, Hs⟩, Hg⟩, Ho, ⟨%d0, %f0, %hf0, H0⟩, ⟨%d1, %f1, %hf1, H1⟩, ⟨%d2, %f2, %hf2, H2⟩, ⟨%d3, %f3, -, H3⟩⟩
  iapply wp_wand_r
  isplitl [H0 H1 H2 H3 Hs]
  · iapply (sound_body Variants.none c none Set.univ (grid0.coords t) _ _ _ _ _ _ _ _ (Memref.whole cc0_scratch0) (Memref.isWhole_whole _) f0 f1 f2 f3 fs)
    isplitl [H0]; · iexact H0
    isplitl [H1]; · iexact H1
    isplitl [H2]; · iexact H2
    isplitl [H3]; · iexact H3
    rw [show (Memref.whole cc0_scratch0).view.set = Finset.univ from View.set_whole _]
    iexact Hs
  iintro %_ ⟨H0, H1, H2, ⟨%g3, H3⟩, ⟨%gs, Hs⟩⟩
  isplitl [Hs Hg]
  · isplitl [Hs]
    · iexists gs
      rw [show (Memref.whole cc0_scratch0).view.set = Finset.univ from View.set_whole _]
      iexact Hs
    iexact Hg
  isplitl [Ho]; · iexact Ho
  isplitl [H0]
  · iexists f0; isplitr; · ipureintro; exact hf0
    iexact H0
  isplitl [H1]
  · iexists d1, f1; isplitr; · ipureintro; exact hf1
    iexact H1
  isplitl [H2]
  · iexists d2, f2; isplitr; · ipureintro; exact hf2
    iexact H2
  iexists _, g3; isplitr; · ipureintro; rfl
  iexact H3

/-- The body table's row at point `t`'s buffers is the body as printed. -/
theorem defs₀_row (t : Fin cfg0.N) :
    defs₀ (F := F) .tc cfg0.body (cfg0.bodyArgs t (cfg0.slots t)) = bodyAt0 t := by
  unfold defs₀; rw [Defs.onTc_tc]

/-- The body, at every grid point. -/
theorem body_obligation (c : Dev nD) : BodyObligationLoose (dats (F := F) m 0 c) (defs₀ (F := F)) Variants.none () Set.univ fgt := fun t => by
  rw [bigSep_W0, bigSep_W0, defs₀_row]
  exact triple_restated (sound_point m c t) rfl .rfl fun _ => .rfl

theorem hT : ∀ ops ∈ ([hostOps1] : List (List (HloOp τ sig (Elt F)))), ∀ op ∈ ops,
    ∀ b : Ref sig .tc, Proc.devRef .tc b ∈ op.writes → b ∈ ({main_v3} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact StableHlo.devRef_ne_of_ne hne hb

set_option backward.isDefEq.respectTransparency.types false in
/-- The frame: from any memory with zero counters every run ends, the arguments as launched, every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget (Q' := _) cfgs (dats m) (0 : Fin 1) launch0 defs₀ Variants.none fgt {main_v3} m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := hT) (hmain := hmain m Variants.none) (hA := A_eq m) (hΦ := fun _ _ => rfl)
    (hQ' := fun r h => ⟨fun c =>
      ⟨((h.1 c).2 main_arg0 (Finset.mem_sdiff.mpr ⟨Pipeline.mem_restRefs_of main_arg0 (by decide) (by decide), by decide⟩)).trans (V_main_arg0 m c),
       (Pipeline.RDat.FramePostR.arr_in h.1 c 1 rfl).trans ((A_eq m c 1).trans (V_main_arg1 m c)),
       ((h.1 c).2 main_arg2 (Finset.mem_sdiff.mpr ⟨Pipeline.mem_restRefs_of main_arg2 (by decide) (by decide), by decide⟩)).trans (V_main_arg2 m c)⟩,
      h.2⟩)

end Cert.Kernel.Run

end
-- ==== Proof.IdealBody.lean ====
/- One grid point of the kernel over its whole buffers, at any float values, with what it leaves named: the accumulator is
   the contribution of the last 128 input features, then one payload per trip of the loop over 1024 features; the
   result block is that accumulator converted. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator after one trip, from the accumulator before it and the three input buffers. -/
def stepAcc (x1 : Vec F S1536x12416 .bf16) (x2 : Vec F S6208x512 .i8) (x3 : Vec F S97x1x512 .bf16)
    (k : Fin k0_t1_loop.trips) (acc : Vec F S1536x512 .f32) : Vec F S1536x512 .f32 :=
  k0_pay4 acc (k0_pay1 (View.ld x3 (Rect.unit (s := S97x1x512) (k0_off1 k) S8x1x512.size (k0_off1_inb k))))
    (k0_pay2 (View.ld x2 (Rect.unit (s := S6208x512) (k0_off2 k) S512x512.size (k0_off2_inb k)))) 28#32
    (View.ld x1 (Rect.unit (s := S1536x12416) (k0_off3 k) S1536x1024.size (k0_off3_inb k)))

theorem zero2 : (![0, 0] : Fin 2 → Nat) = fun _ => 0 := by decide

set_option maxHeartbeats 4000000 in
/-- One trip of the loop over whole buffers. -/
theorem sound_trip (𝒱 : Variants) (c : Dev nD) (bd : Option 𝒱.V) (E : Set ℕ) (i : grid0.Coords)
    (arg1 : Memref sig .tc .vmem S1536x12416 .bf16) (harg1 : arg1.IsWhole) (arg2 : Memref sig .tc .vmem S6208x512 .i8) (harg2 : arg2.IsWhole)
    (arg3 : Memref sig .tc .vmem S97x1x512 .bf16) (harg3 : arg3.IsWhole) (arg4 : Memref sig .tc .vmem S1536x512 .bf16) (harg4 : arg4.IsWhole)
    (arg5 : Memref sig .tc .vmem S1536x512 .f32) (harg5 : arg5.IsWhole)
    (X1 : BufTy.Contents (Elt F) arg1.view.ty) (X2 : BufTy.Contents (Elt F) arg2.view.ty) (X3 : BufTy.Contents (Elt F) arg3.view.ty)
    (f5 : BufTy.Contents (Elt F) arg5.view.ty) (k : Fin k0_t1_loop.trips) :
    iprop((arg1.view.loc (c : Thread nD τ) ↦[arg1.view.set]{fullShare} X1) ∗ (arg2.view.loc (c : Thread nD τ) ↦[arg2.view.set]{fullShare} X2)
        ∗ (arg3.view.loc (c : Thread nD τ) ↦[arg3.view.set]{fullShare} X3)
        ∗ (arg5.view.loc (c : Thread nD τ) ↦[arg5.view.set]{fullShare} f5) : sProp 𝕄)
      ⊢ wp frame (wpE (defs₀ (F := F)) 𝒱 (c : Thread nD τ) bd) E
          (k0_t1_body (F := F) i arg1 harg1 arg2 harg2 arg3 harg3 arg4 harg4 arg5 harg5 k PUnit.unit) fun _ =>
          iprop((arg1.view.loc (c : Thread nD τ) ↦[arg1.view.set]{fullShare} X1) ∗ (arg2.view.loc (c : Thread nD τ) ↦[arg2.view.set]{fullShare} X2)
            ∗ (arg3.view.loc (c : Thread nD τ) ↦[arg3.view.set]{fullShare} X3)
            ∗ (∃ g : BufTy.Contents (Elt F) arg5.view.ty, (arg5.view.loc (c : Thread nD τ) ↦[arg5.view.set]{fullShare} g)
              ∗ ⌜arg5.view.read (Elt F) g = stepAcc (arg1.view.read (Elt F) X1) (arg2.view.read (Elt F) X2) (arg3.view.read (Elt F) X3) k
                  (arg5.view.read (Elt F) f5)⌝)) := by
  have hk : k.val < 12 := Nat.lt_of_lt_of_le k.isLt k0_t1_abs.2.1
  unfold k0_t1_body
  iintro ⟨H1, H2, H3, H5⟩
  sl_exec
  sl_step
  isplitl [H1]; · iexact H1
  isplitl [H2]; · iexact H2
  isplitl [H3]; · iexact H3
  iexists _; isplitl [H5]; · iexact H5
  ipureintro
  sl_unfold_run_names
  rw [View.read_writes_eq_canon _ _ _ (View.cover_of_tiled _ S1536x512.size (by rfl)), View.canon_unit_zero zero2]
  simp only [View.readAt_eq_ld, View.ld_unit_zero (S := S1536x512) zero2]
  rfl

/-- The accumulator before trip `n`, from the accumulator `a` before the loop: one step per trip. -/
def accFrom (x1 : Vec F S1536x12416 .bf16) (x2 : Vec F S6208x512 .i8) (x3 : Vec F S97x1x512 .bf16) (a : Vec F S1536x512 .f32) :
    ℕ → Vec F S1536x512 .f32
  | 0 => a
  | n + 1 => if h : n < k0_t1_loop.trips then stepAcc x1 x2 x3 ⟨n, h⟩ (accFrom x1 x2 x3 a n) else accFrom x1 x2 x3 a n

theorem accFrom_succ (x1 : Vec F S1536x12416 .bf16) (x2 : Vec F S6208x512 .i8) (x3 : Vec F S97x1x512 .bf16) (a : Vec F S1536x512 .f32)
    (k : Fin k0_t1_loop.trips) : accFrom x1 x2 x3 a (k.val + 1) = stepAcc x1 x2 x3 k (accFrom x1 x2 x3 a k.val) := by
  rw [accFrom, dif_pos k.isLt]

/-- The accumulator before the loop: what the last 128 input features give. -/
def acc0 (x1 : Vec F S1536x12416 .bf16) (x2 : Vec F S6208x512 .i8) (x3 : Vec F S97x1x512 .bf16) : Vec F S1536x512 .f32 :=
  k0_pay3 (View.ld x3 (Rect.unit (s := S97x1x512) ![96, 0, 0] S1x1x512.size inb_S97x1x512_S1x1x512_96_0_0))
    (View.ld x2 (Rect.unit (s := S6208x512) ![6144, 0] S64x512.size inb_S6208x512_S64x512_6144_0))
    (View.ld x1 (Rect.unit (s := S1536x12416) ![0, 12288] S1536x128.size inb_S1536x12416_S1536x128_0_12288))

set_option warn.classDefReducibility false in
/-- The loop: before trip `n` the accumulator holds `accFrom … n` of what it held at the loop's entry, the inputs as they were. -/
@[sl_loop] def loopInv (𝒱 : Variants) (c : Dev nD) (bd : Option 𝒱.V) (E : Set ℕ) (i : grid0.Coords)
    (arg1 : Memref sig .tc .vmem S1536x12416 .bf16) (harg1 : arg1.IsWhole) (arg2 : Memref sig .tc .vmem S6208x512 .i8) (harg2 : arg2.IsWhole)
    (arg3 : Memref sig .tc .vmem S97x1x512 .bf16) (harg3 : arg3.IsWhole) (arg4 : Memref sig .tc .vmem S1536x512 .bf16) (harg4 : arg4.IsWhole)
    (arg5 : Memref sig .tc .vmem S1536x512 .f32) (harg5 : arg5.IsWhole)
    (X1 : BufTy.Contents (Elt F) arg1.view.ty) (X2 : BufTy.Contents (Elt F) arg2.view.ty) (X3 : BufTy.Contents (Elt F) arg3.view.ty) (G5 : BufTy.Contents (Elt F) arg5.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5) where
  inv n _ := iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3)
    ∗ (∃ f, (arg5.view.loc (c : Thread nD τ) ↦[arg5.view.set]{fullShare} f)
        ∗ ⌜arg5.view.read (Elt F) f = accFrom (arg1.view.read (Elt F) X1) (arg2.view.read (Elt F) X2) (arg3.view.read (Elt F) X3) (arg5.view.read (Elt F) G5) n⌝))
  step k acc := by
    iintro ⟨H1, H2, H3, ⟨%f, H5, %hf⟩⟩
    iapply (wp_wand_r Idealize.ShloMosaic.frame (wpE (defs₀ (F := F)) 𝒱 (c : Thread nD τ) bd) E)
    isplitl [H1 H2 H3 H5]
    · iapply (sound_trip (F := F) 𝒱 c bd E i arg1 harg1 arg2 harg2 arg3 harg3 arg4 harg4 arg5 harg5 X1 X2 X3 f k)
      isplitl [H1]; · iexact H1
      isplitl [H2]; · iexact H2
      isplitl [H3]; · iexact H3
      iexact H5
    · iintro %_ ⟨H1, H2, H3, ⟨%g, H5, %hg⟩⟩
      isplitl [H1]; · iexact H1
      isplitl [H2]; · iexact H2
      isplitl [H3]; · iexact H3
      iexists g; isplitl [H5]; · iexact H5
      ipureintro; rw [accFrom_succ, hg, hf]

/-- The block a grid point computes from its three input buffers. -/
def outBlk (x1 : Vec F S1536x12416 .bf16) (x2 : Vec F S6208x512 .i8) (x3 : Vec F S97x1x512 .bf16) : Vec F S1536x512 .bf16 :=
  k0_pay5 (accFrom x1 x2 x3 (acc0 x1 x2 x3) k0_t1_loop.trips)

set_option maxHeartbeats 4000000 in
/-- The body from whole buffers: the inputs end as they began, the output block at `outBlk` of them. -/
theorem sound_body (𝒱 : Variants) (c : Dev nD) (bd : Option 𝒱.V) (E : Set ℕ) (i : grid0.Coords)
    (arg1 : Memref sig .tc .vmem S1536x12416 .bf16) (harg1 : arg1.IsWhole) (arg2 : Memref sig .tc .vmem S6208x512 .i8) (harg2 : arg2.IsWhole)
    (arg3 : Memref sig .tc .vmem S97x1x512 .bf16) (harg3 : arg3.IsWhole) (arg4 : Memref sig .tc .vmem S1536x512 .bf16) (harg4 : arg4.IsWhole)
    (arg5 : Memref sig .tc .vmem S1536x512 .f32) (harg5 : arg5.IsWhole)
    (X1 : BufTy.Contents (Elt F) arg1.view.ty) (X2 : BufTy.Contents (Elt F) arg2.view.ty) (X3 : BufTy.Contents (Elt F) arg3.view.ty)
    (f4 : BufTy.Contents (Elt F) arg4.view.ty) (f5 : BufTy.Contents (Elt F) arg5.view.ty) :
    iprop((arg1.view.loc (c : Thread nD τ) ↦[arg1.view.set]{fullShare} X1) ∗ (arg2.view.loc (c : Thread nD τ) ↦[arg2.view.set]{fullShare} X2)
        ∗ (arg3.view.loc (c : Thread nD τ) ↦[arg3.view.set]{fullShare} X3) ∗ (arg4.view.loc (c : Thread nD τ) ↦[arg4.view.set]{fullShare} f4)
        ∗ (arg5.view.loc (c : Thread nD τ) ↦[arg5.view.set]{fullShare} f5) : sProp 𝕄)
      ⊢ wp frame (wpE (defs₀ (F := F)) 𝒱 (c : Thread nD τ) bd) E
          (cc0_int4_linear (F := F) i arg1 harg1 arg2 harg2 arg3 harg3 arg4 harg4 arg5 harg5) fun _ =>
          iprop((arg1.view.loc (c : Thread nD τ) ↦[arg1.view.set]{fullShare} X1) ∗ (arg2.view.loc (c : Thread nD τ) ↦[arg2.view.set]{fullShare} X2)
            ∗ (arg3.view.loc (c : Thread nD τ) ↦[arg3.view.set]{fullShare} X3)
            ∗ (∃ g : BufTy.Contents (Elt F) arg4.view.ty, (arg4.view.loc (c : Thread nD τ) ↦[arg4.view.set]{fullShare} g)
              ∗ ⌜arg4.view.read (Elt F) g = outBlk (arg1.view.read (Elt F) X1) (arg2.view.read (Elt F) X2) (arg3.view.read (Elt F) X3)⌝)
            ∗ (∃ g : BufTy.Contents (Elt F) arg5.view.ty, arg5.view.loc (c : Thread nD τ) ↦[arg5.view.set]{fullShare} g)) := by
  iintro ⟨H1, H2, H3, H4, H5⟩
  simp only [cc0_int4_linear_eq_skeleton]; unfold cc0_int4_linear_skel
  sl_exec
  sl_step
  isplitl [H1]; · iexact H1
  isplitl [H2]; · iexact H2
  isplitl [H3]; · iexact H3
  isplitl [H4]
  · iexists _; isplitl [H4]; · iexact H4
    ipureintro
    sl_unfold_run_names
    rw [View.read_writes_eq_canon _ _ _ (View.cover_of_tiled _ S1536x512.size (by rfl)), View.canon_unit_zero zero2]
    rw [View.readAt_eq_ld, View.ld_unit_zero (S := S1536x512) zero2, hL4]
    have h0 : View.read (Elt F) arg5.view (arg5.view.writes (Elt F) arg5.view.junk (sound_body.sl.H5_1 arg1 arg2 arg3 X1 X2 X3))
        = acc0 (arg1.view.read (Elt F) X1) (arg2.view.read (Elt F) X2) (arg3.view.read (Elt F) X3) := by
      sl_unfold_run_names
      rw [View.read_writes_eq_canon _ _ _ (View.cover_of_tiled _ S1536x512.size (by rfl)), View.canon_unit_zero zero2]
      simp only [View.readAt_eq_ld]
      rfl
    rw [h0]
    rfl
  iexists _; iexact H5

end Cert.KernelIdeal.Run

end
-- ==== Proof.Dequant.lean ====
module

public import proofs.«01_k».proof.Proof.Nibble
public import Idealize.ShloMosaic.Lib.MatmulPlain

/-! The kernel's dequantization of a stretch of input features, read at an index: the code a packed byte holds, less
    eight, times the scale of the feature's group of 128. -/

@[expose] public section

set_option maxRecDepth 16384

noncomputable section

open Idealize.ShloMosaic Idealize.ShloMosaic.ValueIdx

namespace Cert.Dequant

/-- The codes of `T` features, from `T / 2` rows of packed bytes: bytes gathered four to a word, the top bit of every
    code flipped, each word repeated eight times, copy `j` shifted so that code `j` is at the top and back down. At
    feature `k` and column `n` this is the code in byte row `k / 2`, its top bit flipped. -/
theorem codes_apply {A R T : ℕ} (hT : T = 8 * R) (x : (⟨2, ![A, 512]⟩ : Shape).Idx → BitVec 8)
    (hb : (⟨2, ![A, 512]⟩ : Shape).Bitcasts 8 ⟨2, ![R, 512]⟩ 32)
    (hs1 : (⟨2, ![R, 512]⟩ : Shape).ShapeCasts ⟨3, ![R, 1, 512]⟩)
    (hbc : (⟨3, ![R, 1, 512]⟩ : Shape).Broadcasts ⟨3, ![R, 8, 512]⟩)
    (hi : (⟨3, ![R, 8, 512]⟩ : Shape).Iotas .tc 32 [1])
    (hs2 : (⟨3, ![R, 8, 512]⟩ : Shape).ShapeCasts ⟨2, ![T, 512]⟩) (ht : 4 < 32)
    (k : Fin T) (n : Fin 512) (p : Fin A) (hp : p.val = k.val / 2) :
    trunci 4 (shapeCast ⟨2, ![T, 512]⟩ (shrsi (shli (broadcastTo ⟨3, ![R, 8, 512]⟩
        (shapeCast ⟨3, ![R, 1, 512]⟩ (xori (bitcast ⟨2, ![R, 512]⟩ 32 x hb) (broadcast ⟨2, ![R, 512]⟩ 2290649224#32)) hs1) hbc)
        (subi (broadcast ⟨3, ![R, 8, 512]⟩ 28#32)
          (muli (broadcast ⟨3, ![R, 8, 512]⟩ 4#32) (iota .tc ⟨3, ![R, 8, 512]⟩ 32 [1] hi))))
        (broadcast ⟨3, ![R, 8, 512]⟩ 28#32)) hs2) ht (ix2 k n)
      = Nibble.nib (x (ix2 p n)) k.val ^^^ 8#4 := by
  have hk := k.isLt
  have hj : k.val % 8 < 8 := Nat.mod_lt _ (by omega)
  have hr : k.val / 8 < R := by omega
  let j : Fin 8 := ⟨k.val % 8, hj⟩
  let r : Fin R := ⟨k.val / 8, hr⟩
  show BitVec.setWidth 4 (shapeCast ⟨2, ![T, 512]⟩ (shrsi _ _) hs2 (ix2 k n)) = _
  rw [shapeCast_apply _ hs2 (ix2 k n) (ix3 r j n) (by
    rw [Shape.rowMajor_val_three, Shape.rowMajor_val_two]
    show (k.val / 8 * 8 + k.val % 8) * 512 + n.val = k.val * 512 + n.val
    omega)]
  show (IntOp.shrsi .vector (IntOp.shli .vector (broadcastTo ⟨3, ![R, 8, 512]⟩ _ hbc (ix3 r j n))
    (28#32 - 4#32 * (iota .tc ⟨3, ![R, 8, 512]⟩ 32 [1] hi (ix3 r j n)))) 28#32).setWidth 4 = _
  rw [iota_single_apply, broadcastTo_apply _ hbc (ix3 r j n) (ix3 r 0 n) (by
    intro a
    match a with
    | ⟨0, _⟩ =>
      show r.val = if R = 1 then 0 else r.val
      split
      · omega
      · rfl
    | ⟨1, _⟩ => rfl
    | ⟨2, _⟩ => rfl),
    shapeCast_apply _ hs1 (ix3 r 0 n) (ix2 r n) (by
      rw [Shape.rowMajor_val_three, Shape.rowMajor_val_two]
      show r.val * 512 + n.val = (r.val * 1 + 0) * 512 + n.val
      omega)]
  have ha : ∀ j : Fin 8, (28#32 - 4#32 * BitVec.ofNat 32 j.val).toNat = 28 - 4 * j.val := by decide
  have hq : (28#32 - 4#32 * BitVec.ofNat 32 ((ix3 r j n : (⟨3, ![R, 8, 512]⟩ : Shape).Idx) 1).val).toNat = 28 - 4 * (k.val % 8) := ha j
  generalize 28#32 - 4#32 * BitVec.ofNat 32 ((ix3 r j n : (⟨3, ![R, 8, 512]⟩ : Shape).Idx) 1).val = q at hq
  unfold IntOp.shrsi IntOp.shli
  rw [if_pos (by decide : (28#32 : BitVec 32).toNat < 32), if_pos (by rw [hq]; omega), BitVec.shiftLeft_eq', hq]
  rw [show Nibble.nib (x (ix2 p n)) k.val = Nibble.nib (x (ix2 p n)) (k.val % 8) from
    Nibble.nib_mod _ _ _ (by omega)]
  refine Nibble.wordCode_eq (bitcast ⟨2, ![R, 512]⟩ 32 x hb (ix2 r n)) (k.val % 8) hj (x (ix2 p n)) fun b hb4 => ?_
  rw [bitcast_8_32_getLsbD_ix2 x hb r n (4 * (k.val % 8) + b) (by omega) p (by
    show p.val = 4 * (k.val / 8) + (4 * (k.val % 8) + b) / 8
    omega)]
  exact congrArg _ (by omega)

/-- The weights of `T` features: each code as a number, times the scale of its group of 128 features. -/
theorem weights_apply {T G : ℕ} (hT : T = 128 * G) (c : IVec ⟨2, ![T, 512]⟩ 4) (s : FVec Ideal ⟨2, ![G, 512]⟩ .bf16)
    (h1 : (⟨2, ![T, 512]⟩ : Shape).ShapeCasts ⟨3, ![G, 128, 512]⟩)
    (h2 : (⟨2, ![G, 512]⟩ : Shape).ShapeCasts ⟨3, ![G, 1, 512]⟩)
    (h3 : (⟨3, ![G, 1, 512]⟩ : Shape).Broadcasts ⟨3, ![G, 128, 512]⟩)
    (h4 : (⟨3, ![G, 128, 512]⟩ : Shape).ShapeCasts ⟨2, ![T, 512]⟩)
    (k : Fin T) (n : Fin 512) (g : Fin G) (hg : g.val = k.val / 128) :
    shapeCast ⟨2, ![T, 512]⟩ (mulf (shapeCast ⟨3, ![G, 128, 512]⟩ (sitofp (F := Ideal) .bf16 c) h1)
        (broadcastTo ⟨3, ![G, 128, 512]⟩ (shapeCast ⟨3, ![G, 1, 512]⟩ s h2) h3)) h4 (ix2 k n)
      = ((((c (ix2 k n)).toInt : ℝ) : EReal) * s (ix2 g n) : EReal) := by
  have hk := k.isLt
  let l : Fin 128 := ⟨k.val % 128, Nat.mod_lt _ (by omega)⟩
  rw [shapeCast_apply _ h4 (ix2 k n) (ix3 g l n) (by
    rw [Shape.rowMajor_val_three, Shape.rowMajor_val_two]
    show (g.val * 128 + k.val % 128) * 512 + n.val = k.val * 512 + n.val
    omega)]
  show shapeCast ⟨3, ![G, 128, 512]⟩ (sitofp (F := Ideal) .bf16 c) h1 (ix3 g l n) *
    broadcastTo ⟨3, ![G, 128, 512]⟩ (shapeCast ⟨3, ![G, 1, 512]⟩ s h2) h3 (ix3 g l n) = _
  rw [shapeCast_apply _ h1 (ix3 g l n) (ix2 k n) (by
      rw [Shape.rowMajor_val_three, Shape.rowMajor_val_two]
      show k.val * 512 + n.val = (g.val * 128 + k.val % 128) * 512 + n.val
      omega),
    broadcastTo_apply _ h3 (ix3 g l n) (ix3 g 0 n) (by
      intro a
      match a with
      | ⟨0, _⟩ =>
        show g.val = if G = 1 then 0 else g.val
        have := g.isLt
        split
        · omega
        · rfl
      | ⟨1, _⟩ => rfl
      | ⟨2, _⟩ => rfl),
    shapeCast_apply _ h2 (ix3 g 0 n) (ix2 g n) (by
      rw [Shape.rowMajor_val_three, Shape.rowMajor_val_two]
      show g.val * 512 + n.val = (g.val * 1 + 0) * 512 + n.val
      omega)]
  rfl

/-- A product of a block of inputs with a block of weights, into zero, read at an index. -/
theorem product_apply {M K N : ℕ} (lhs : FVec Ideal ⟨2, ![M, K]⟩ .bf16) (rhs : FVec Ideal ⟨2, ![K, N]⟩ .bf16)
    (r : Fin M) (c : Fin N) :
    matmul (DotDims.plain M K N) none lhs rhs (constant (F := Ideal) ⟨2, ![M, N]⟩ .f32 0x00000000#32) (ix2 r c)
      = (∑ k : Fin K, lhs (ix2 r k) * rhs (ix2 k c) : EReal) := by
  refine (Ideal.matmul_plain_apply none lhs rhs _ r c).trans ?_
  refine (congrArg (· + _) ?_).trans (zero_add _)
  exact Ideal.ofBits_zero_f32

end Cert.Dequant
-- ==== Proof.IdealBlock.lean ====
/- What one grid point of the kernel computes, read at an index over the extended reals: each entry of the result block
   is the sum over all 12416 input features of the input times the dequantized weight. -/
module

public import proofs.«01_k».proof.Proof.IdealBody
public import proofs.«01_k».proof.Proof.Dequant
public import proofs.«01_k».proof.Proof.Spec
public import Idealize.ShloMosaic.Lib.Pipeline.ValueKit.Tiles

@[expose] public section

set_option maxRecDepth 16384

noncomputable section

open Idealize.ShloMosaic Idealize.ShloMosaic.ValueIdx

namespace Cert.KernelIdeal.Block

open Cert.KernelIdeal Cert.KernelIdeal.Gen Cert.KernelIdeal.Run

/-- The product feature `k` contributes to entry `(r, n)` of the result block. -/
def term (x1 : Vec Ideal S1536x12416 .bf16) (x2 : Vec Ideal S6208x512 .i8) (x3 : Vec Ideal S97x1x512 .bf16)
    (r : Fin 1536) (n : Fin 512) (k : ℕ) : EReal :=
  if h : k < 12416 then
    x1 (ix2 r (⟨k, h⟩ : Fin 12416)) *
      Spec.weight (x2 (ix2 (⟨k / 2, by omega⟩ : Fin 6208) n)) (x3 (ix3 (⟨k / 128, by omega⟩ : Fin 97) (0 : Fin 1) n)) k
  else 0

/-- The loop over stretches of 1024 features runs twelve times. -/
theorem trips_eq : k0_t1_loop.trips = 12 := by decide +kernel

/-- The accumulator before the loop: the contribution of the last 128 features. -/
theorem acc0_apply (x1 : Vec Ideal S1536x12416 .bf16) (x2 : Vec Ideal S6208x512 .i8) (x3 : Vec Ideal S97x1x512 .bf16)
    (r : Fin 1536) (n : Fin 512) :
    acc0 (F := Ideal) x1 x2 x3 (ix2 r n) = (∑ k ∈ Finset.range 128, term x1 x2 x3 r n (12288 + k) : EReal) := by
  unfold acc0 k0_pay3
  rw [shapeCast_apply _ _ (ix2 r n) (ix2 r n) rfl]
  refine (Dequant.product_apply (M := 1536) (K := 128) (N := 512) _ _ r n).trans ?_
  rw [Finset.sum_range]
  refine Finset.sum_congr rfl fun k _ => ?_
  have hk := k.isLt
  rw [term, dif_pos (by omega : 12288 + k.val < 12416)]
  refine congrArg₂ (· * ·) ?_ ?_
  · rw [shapeCast_apply _ _ (ix2 r k) (ix2 r k) rfl]
    exact View.ld_unit_apply_of _ _ _ _ _ _ fun a => by
      match a with
      | ⟨0, _⟩ => exact (Nat.zero_add _).symm
      | ⟨1, _⟩ => rfl
  · refine (Dequant.weights_apply (T := 128) (G := 1) rfl _ _ _ _ _ _ k n 0 (by omega)).trans ?_
    refine congrArg₂ (· * ·) ?_ ?_
    · rw [Dequant.codes_apply (A := 64) (R := 16) (T := 128) rfl _ _ _ _ _ _ _ k n ⟨k.val / 2, by omega⟩ rfl,
        Nibble.toInt_flip]
      rw [View.ld_unit_apply_of x2 ![6144, 0] S64x512.size _ _ (ix2 (⟨(12288 + k.val) / 2, by omega⟩ : Fin 6208) n) fun a => by
        match a with
        | ⟨0, _⟩ => show (12288 + k.val) / 2 = 6144 + k.val / 2; omega
        | ⟨1, _⟩ => exact (Nat.zero_add _).symm]
      rw [Nibble.code, Nibble.nib_mod _ (12288 + k.val) k.val (by omega)]
    · rw [shapeCast_apply _ _ (ix2 (0 : Fin 1) n) (ix3 (0 : Fin 1) (0 : Fin 1) n) (by
        rw [Shape.rowMajor_val_three, Shape.rowMajor_val_two]; rfl)]
      exact View.ld_unit_apply_of _ _ _ _ _ _ fun a => by
        match a with
        | ⟨0, _⟩ => show (12288 + k.val) / 128 = 96 + 0; omega
        | ⟨1, _⟩ => rfl
        | ⟨2, _⟩ => exact (Nat.zero_add _).symm

/-- One trip of the loop adds the contribution of its stretch of 1024 features. -/
theorem stepAcc_apply (x1 : Vec Ideal S1536x12416 .bf16) (x2 : Vec Ideal S6208x512 .i8) (x3 : Vec Ideal S97x1x512 .bf16)
    (t : Fin k0_t1_loop.trips) (acc : Vec Ideal S1536x512 .f32) (r : Fin 1536) (n : Fin 512) :
    stepAcc (F := Ideal) x1 x2 x3 t acc (ix2 r n)
      = (acc (ix2 r n) + ∑ k ∈ Finset.range 1024, term x1 x2 x3 r n (1024 * t.val + k) : EReal) := by
  have ht : t.val < 12 := Nat.lt_of_lt_of_le t.isLt k0_t1_abs.2.1
  unfold stepAcc k0_pay4 k0_pay2 k0_pay1
  rw [shapeCast_apply _ _ (ix2 r n) (ix2 r n) rfl]
  refine congrArg (acc (ix2 r n) + ·) ((Dequant.product_apply (M := 1536) (K := 1024) (N := 512) _ _ r n).trans ?_)
  rw [Finset.sum_range]
  refine Finset.sum_congr rfl fun k _ => ?_
  have hk := k.isLt
  rw [term, dif_pos (by omega : 1024 * t.val + k.val < 12416)]
  refine congrArg₂ (· * ·) ?_ ?_
  · rw [shapeCast_apply _ _ (ix2 r k) (ix2 r k) rfl]
    exact View.ld_unit_apply_of _ _ _ _ _ _ fun a => by
      refine Eq.trans ?_ (congrArg (· + _) (congrFun (k0_off3_eq t) a).symm)
      match a with
      | ⟨0, _⟩ => exact (Nat.zero_add _).symm
      | ⟨1, _⟩ => rfl
  · refine (Dequant.weights_apply (T := 1024) (G := 8) rfl _ _ _ _ _ _ k n ⟨k.val / 128, by omega⟩ rfl).trans ?_
    refine congrArg₂ (· * ·) ?_ ?_
    · rw [Dequant.codes_apply (A := 512) (R := 128) (T := 1024) rfl _ _ _ _ _ _ _ k n ⟨k.val / 2, by omega⟩ rfl,
        Nibble.toInt_flip]
      rw [View.ld_unit_apply_of x2 (k0_off2 t) S512x512.size _ _
        (ix2 (⟨(1024 * t.val + k.val) / 2, by omega⟩ : Fin 6208) n) fun a => by
          refine Eq.trans ?_ (congrArg (· + _) (congrFun (k0_off2_eq t) a).symm)
          match a with
          | ⟨0, _⟩ => show (1024 * t.val + k.val) / 2 = 512 * t.val + k.val / 2; omega
          | ⟨1, _⟩ => exact (Nat.zero_add _).symm]
      rw [Nibble.code, Nibble.nib_mod _ (1024 * t.val + k.val) k.val (by omega)]
    · rw [shapeCast_apply _ _ (ix2 (⟨k.val / 128, by omega⟩ : Fin 8) n) (ix3 (⟨k.val / 128, by omega⟩ : Fin 8) (0 : Fin 1) n) (by
        rw [Shape.rowMajor_val_three, Shape.rowMajor_val_two]
        show (k.val / 128 * 1 + 0) * 512 + n.val = k.val / 128 * 512 + n.val
        omega)]
      exact View.ld_unit_apply_of _ _ _ _ _ _ fun a => by
        refine Eq.trans ?_ (congrArg (· + _) (congrFun (k0_off1_eq t) a).symm)
        match a with
        | ⟨0, _⟩ => show (1024 * t.val + k.val) / 128 = 8 * t.val + k.val / 128; omega
        | ⟨1, _⟩ => rfl
        | ⟨2, _⟩ => exact (Nat.zero_add _).symm

/-- The accumulator after `m` trips: what it held, plus the first `1024 m` features. -/
theorem accFrom_apply (x1 : Vec Ideal S1536x12416 .bf16) (x2 : Vec Ideal S6208x512 .i8) (x3 : Vec Ideal S97x1x512 .bf16)
    (a : Vec Ideal S1536x512 .f32) (r : Fin 1536) (n : Fin 512) : ∀ m ≤ 12,
    accFrom (F := Ideal) x1 x2 x3 a m (ix2 r n)
      = (a (ix2 r n) + ∑ k ∈ Finset.range (1024 * m), term x1 x2 x3 r n k : EReal) := by
  intro m
  induction m with
  | zero => intro _; exact (add_zero _).symm
  | succ m ih =>
    intro hm
    have h : m < k0_t1_loop.trips := by rw [trips_eq]; omega
    rw [accFrom_succ x1 x2 x3 a ⟨m, h⟩, stepAcc_apply, ih (by omega), add_assoc, ← Finset.sum_range_add]
    rfl

/-- An entry of the result block: the sum over all input features. -/
theorem outBlk_apply (x1 : Vec Ideal S1536x12416 .bf16) (x2 : Vec Ideal S6208x512 .i8) (x3 : Vec Ideal S97x1x512 .bf16)
    (r : Fin 1536) (n : Fin 512) :
    outBlk (F := Ideal) x1 x2 x3 (ix2 r n) = (∑ k ∈ Finset.range 12416, term x1 x2 x3 r n k : EReal) := by
  show accFrom (F := Ideal) x1 x2 x3 (acc0 (F := Ideal) x1 x2 x3) k0_t1_loop.trips (ix2 r n) = _
  rw [trips_eq, accFrom_apply x1 x2 x3 _ r n 12 le_rfl, acc0_apply, add_comm]
  exact (Finset.sum_range_add _ 12288 128).symm

end Cert.KernelIdeal.Block
-- ==== Proof.IdealWindows.lean ====
/- What one grid point of the kernel is given and what it must leave: the blocks of the three inputs read at an index, and
   the columns of the result block that lie inside the array as the sum over all input features. The last block of
   columns overhangs the arrays; past their edge the staging buffers hold anything, and nothing is said of them. -/
module

public import proofs.«01_k».proof.Proof.IdealBlock

@[expose] public section

set_option maxRecDepth 16384

noncomputable section

namespace Cert.KernelIdeal.Windows

open Cert.KernelIdeal Cert.KernelIdeal.Gen Cert.KernelIdeal.Run
open Idealize.ShloMosaic Idealize.ShloMosaic.TcCoe Idealize.ShloMosaic.ValueIdx
open Idealize.SL Idealize.SL.RA Idealize.SL.BI
open Idealize.ShloMosaic.StableHlo
open Idealize.ShloMosaic.Pipeline (Dat Cfg Window)

variable (m : (ℓ : Loc nD τ sig) → Buf (Elt Ideal) ℓ)

/-- The argument arrays as launched. -/
abbrev a0 (c : Dev nD) : S4x384x12416.Idx → EReal := m ((c : Thread nD τ).loc main_arg0)
abbrev a1 (c : Dev nD) : S6208x17792.Idx → BitVec 8 := m ((c : Thread nD τ).loc main_arg1)
abbrev a2 (c : Dev nD) : S97x17792.Idx → EReal := m ((c : Thread nD τ).loc main_arg2)

/-! ## The arrays the call reads -/

/-- The call's first operand is the first argument, its two leading axes joined. -/
theorem V_main_v0 (c : Dev nD) : (V m c main_v0 : S1536x12416.Idx → EReal)
    = shapeCast S1536x12416 (a0 m c) shapeCasts_S4x384x12416_S1536x12416 := by
  show StableHlo.after (List.flatten [hostOps0]) (fun b => m (c, b)) (Proc.devRef .tc main_v0) = _
  simp only [hostOps0, List.flatten_cons, List.flatten_nil, List.append_nil]
  after_results
  try rfl

/-- The call's third operand is the third argument with a unit axis inserted. -/
theorem V_main_v1 (c : Dev nD) : (V m c main_v1 : S97x1x17792.Idx → EReal)
    = broadcastInDim S97x1x17792 ![0, 2] bcast_S97x17792_S97x1x17792_0_2 (a2 m c) := by
  show StableHlo.after (List.flatten [hostOps0]) (fun b => m (c, b)) (Proc.devRef .tc main_v1) = _
  simp only [hostOps0, List.flatten_cons, List.flatten_nil, List.append_nil]
  after_results
  try rfl

/-! ## Where the blocks lie -/

/-- The first operand's one block starts at the origin. -/
theorem index0 : ∀ t : Fin grid0.N, win0_0.index t 0 = 0 ∧ win0_0.index t 1 = 0 := by decide +kernel
/-- The other windows' blocks at point `t` start at column block `t`. -/
theorem index1 : ∀ t : Fin grid0.N, win0_1.index t 0 = 0 ∧ win0_1.index t 1 = t.val := by decide +kernel
theorem index2 : ∀ t : Fin grid0.N, win0_2.index t 0 = 0 ∧ win0_2.index t 1 = 0 ∧ win0_2.index t 2 = t.val := by decide +kernel
theorem index3 : ∀ t : Fin grid0.N, win0_3.index t 0 = 0 ∧ win0_3.index t 1 = t.val := by decide +kernel

/-- The columns of block `t` inside the arrays. -/
def cols (t : ℕ) : ℕ := min 512 (17792 - 512 * t)

/-- The parts of the blocks inside the arrays: all rows, the first `cols t` columns. -/
theorem size1 : ∀ t : Fin grid0.N, win0_1.xsize (grid0.coords t) 0 = 6208 ∧ win0_1.xsize (grid0.coords t) 1 = cols t.val := by
  decide +kernel
theorem size2 : ∀ t : Fin grid0.N, win0_2.xsize (grid0.coords t) 0 = 97 ∧ win0_2.xsize (grid0.coords t) 1 = 1
    ∧ win0_2.xsize (grid0.coords t) 2 = cols t.val := by decide +kernel
theorem size3 : ∀ t : Fin grid0.N, win0_3.xsize (grid0.coords t) 0 = 1536 ∧ win0_3.xsize (grid0.coords t) 1 = cols t.val := by
  decide +kernel

/-! ## The blocks at an index -/

/-- The first operand's block at row `r`, feature `k`. -/
theorem block0_apply (c : Dev nD) (t : Fin cfg0.N) (r : Fin 1536) (k : Fin 12416) :
    (iblk m c 0 t : S1536x12416.Idx → EReal) (ix2 r k)
      = a0 m c (ix3 (⟨r.val / 384, by omega⟩ : Fin 4) (⟨r.val % 384, by omega⟩ : Fin 384) k) := by
  obtain ⟨e0, e1⟩ := index0 t
  show (V m c main_v0 : S1536x12416.Idx → EReal) (((cfg0.win 0).blk t).view.emb (ix2 r k)) = _
  rw [show (((cfg0.win 0).blk t).view.emb (ix2 r k) : S1536x12416.Idx) = ix2 r k from funext fun a => Fin.ext (by
    match a with
    | ⟨0, _⟩ => show win0_0.index t (0 : Fin 2) * 1536 + 1 * r.val = r.val; omega
    | ⟨1, _⟩ => show win0_0.index t (1 : Fin 2) * 12416 + 1 * k.val = k.val; omega), V_main_v0]
  exact shapeCast_apply _ _ _ _ (by
    rw [Shape.rowMajor_val_three, Shape.rowMajor_val_two]
    show (r.val / 384 * 384 + r.val % 384) * 12416 + k.val = r.val * 12416 + k.val
    omega)

/-- The packed bytes' buffer at byte row `p` and a column inside the array, whatever it holds past the edge. -/
theorem block1_apply (c : Dev nD) (t : Fin cfg0.N) (d : S6208x512.Idx → BitVec 8) (p : Fin 6208) (n : Fin 512)
    (hn : 512 * t.val + n.val < 17792) :
    ((cfg0.win 1).fill (cfg0.grid.coords t) d (iblk m c 1 t) : S6208x512.Idx → BitVec 8) (ix2 p n)
      = a1 m c (ix2 p (⟨512 * t.val + n.val, hn⟩ : Fin 17792)) := by
  obtain ⟨e0, e1⟩ := index1 t
  obtain ⟨s0, s1⟩ := size1 t
  have hp := p.isLt
  have hn' := n.isLt
  have hm : (cfg0.win 1).moved (cfg0.grid.coords t) (ix2 p n) = true := ((cfg0.win 1).moved_iff _ _).mpr fun a => by
    match a with
    | ⟨0, _⟩ => exact Nat.lt_of_lt_of_eq hp s0.symm
    | ⟨1, _⟩ => refine Nat.lt_of_lt_of_eq (?_ : n.val < cols t.val) s1.symm; unfold cols; omega
  unfold Window.fill
  rw [dif_pos hm]
  show (V m c main_arg1 : S6208x17792.Idx → BitVec 8) (((cfg0.win 1).blk t).view.emb _) = _
  rw [V_main_arg1]
  refine congrArg (a1 m c) (funext fun a => Fin.ext ?_)
  match a with
  | ⟨0, _⟩ => show win0_1.index t (0 : Fin 2) * 6208 + 1 * p.val = p.val; omega
  | ⟨1, _⟩ => show win0_1.index t (1 : Fin 2) * 512 + 1 * n.val = 512 * t.val + n.val; omega

/-- The scales' buffer at group `g` and a column inside the array, whatever it holds past the edge. -/
theorem block2_apply (c : Dev nD) (t : Fin cfg0.N) (d : S97x1x512.Idx → EReal) (g : Fin 97) (n : Fin 512)
    (hn : 512 * t.val + n.val < 17792) :
    ((cfg0.win 2).fill (cfg0.grid.coords t) d (iblk m c 2 t) : S97x1x512.Idx → EReal) (ix3 g (0 : Fin 1) n)
      = a2 m c (ix2 g (⟨512 * t.val + n.val, hn⟩ : Fin 17792)) := by
  obtain ⟨e0, e1, e2⟩ := index2 t
  obtain ⟨s0, s1, s2⟩ := size2 t
  have hg := g.isLt
  have hn' := n.isLt
  have hm : (cfg0.win 2).moved (cfg0.grid.coords t) (ix3 g (0 : Fin 1) n) = true := ((cfg0.win 2).moved_iff _ _).mpr fun a => by
    match a with
    | ⟨0, _⟩ => exact Nat.lt_of_lt_of_eq hg s0.symm
    | ⟨1, _⟩ => exact Nat.lt_of_lt_of_eq Nat.zero_lt_one s1.symm
    | ⟨2, _⟩ => refine Nat.lt_of_lt_of_eq (?_ : n.val < cols t.val) s2.symm; unfold cols; omega
  unfold Window.fill
  rw [dif_pos hm]
  show (V m c main_v1 : S97x1x17792.Idx → EReal) (((cfg0.win 2).blk t).view.emb _) = _
  rw [V_main_v1]
  refine broadcastInDim_apply _ _ _ _ _ fun a => ?_
  match a with
  | ⟨0, _⟩ => show g.val = if (97 : ℕ) = 1 then 0 else win0_2.index t (0 : Fin 3) * 97 + 1 * g.val; rw [if_neg (by decide)]; omega
  | ⟨1, _⟩ =>
    show 512 * t.val + n.val = if (17792 : ℕ) = 1 then 0 else win0_2.index t (2 : Fin 3) * 512 + 1 * n.val
    rw [if_neg (by decide)]; omega

/-! ## The result block -/

/-- The array the call writes: the sum over all features, its two leading axes joined. -/
def result (c : Dev nD) : S1536x17792.Idx → EReal :=
  shapeCast S1536x17792 (Spec.out (a0 m c) (a1 m c) (a2 m c)) (by decide)

theorem result_apply (c : Dev nD) (r : Fin 1536) (n : Fin 17792) :
    result m c (ix2 r n) = Spec.out (a0 m c) (a1 m c) (a2 m c)
      (ix3 (⟨r.val / 384, by omega⟩ : Fin 4) (⟨r.val % 384, by omega⟩ : Fin 384) n) :=
  shapeCast_apply _ _ _ _ (by
    rw [Shape.rowMajor_val_three, Shape.rowMajor_val_two]
    show (r.val / 384 * 384 + r.val % 384) * 17792 + n.val = r.val * 17792 + n.val
    omega)

/-- The result block at a column inside the array, whatever the input buffers hold past the edge. -/
theorem outBlk_apply (c : Dev nD) (t : Fin cfg0.N) (d1 : S6208x512.Idx → BitVec 8) (d2 : S97x1x512.Idx → EReal)
    (r : Fin 1536) (n : Fin 512) (hn : 512 * t.val + n.val < 17792) :
    outBlk (F := Ideal) (iblk m c 0 t) ((cfg0.win 1).fill (cfg0.grid.coords t) d1 (iblk m c 1 t))
        ((cfg0.win 2).fill (cfg0.grid.coords t) d2 (iblk m c 2 t)) (ix2 r n)
      = result m c (ix2 r (⟨512 * t.val + n.val, hn⟩ : Fin 17792)) := by
  rw [result_apply]
  refine (Block.outBlk_apply _ _ _ r n).trans (Finset.sum_congr rfl fun k _ => ?_)
  unfold Block.term Spec.term
  split
  · rw [block0_apply, block1_apply m c t d1 _ n hn, block2_apply m c t d2 _ n hn]
  · rfl

/-- A result block, cut to its part inside the array, is the array the call writes read through the block. -/
theorem cut_outBlk (c : Dev nD) (t : Fin cfg0.N) (d1 : S6208x512.Idx → BitVec 8) (d2 : S97x1x512.Idx → EReal) :
    (cfg0.win 3).cut (cfg0.grid.coords t) (outBlk (F := Ideal) (iblk m c 0 t)
        ((cfg0.win 1).fill (cfg0.grid.coords t) d1 (iblk m c 1 t)) ((cfg0.win 2).fill (cfg0.grid.coords t) d2 (iblk m c 2 t)))
      = ((cfg0.win 3).blk t).view.read (Elt Ideal) (result m c) := by
  obtain ⟨e0, e1⟩ := index3 t
  obtain ⟨s0, s1⟩ := size3 t
  funext j
  have hr : (j 0).val < 1536 := Nat.lt_of_lt_of_eq (j 0).isLt s0
  have hc : (j 1).val < cols t.val := Nat.lt_of_lt_of_eq (j 1).isLt s1
  unfold cols at hc
  have hn : (j 1).val < 512 := by omega
  refine Eq.trans (congrArg (outBlk (F := Ideal) _ _ _) (?_ : _ = ix2 (⟨(j 0).val, hr⟩ : Fin 1536) (⟨(j 1).val, hn⟩ : Fin 512)))
    ((outBlk_apply m c t d1 d2 ⟨(j 0).val, hr⟩ ⟨(j 1).val, hn⟩ (by show 512 * t.val + (j 1).val < 17792; omega)).trans
      (congrArg (result m c) ?_))
  · funext a
    match a with
    | ⟨0, _⟩ => rfl
    | ⟨1, _⟩ => rfl
  · funext a
    refine Fin.ext ?_
    match a with
    | ⟨0, _⟩ => show (j 0).val = win0_3.index t (0 : Fin 2) * 1536 + 1 * (j 0).val; omega
    | ⟨1, _⟩ => show 512 * t.val + (j 1).val = win0_3.index t (1 : Fin 2) * 512 + 1 * (j 1).val; omega

/-- Every index of the array the call writes is in some point's block. -/
theorem covered (i : S1536x17792.Idx) : ∃ t : Fin cfg0.N, (cfg0.win 3).flush t = true ∧ i ∈ ((cfg0.win 3).blk t).view.set := by
  have h0 : (i 0).val < 1536 := (i 0).isLt
  have h1 : (i 1).val < 17792 := (i 1).isLt
  let t : Fin cfg0.N := ⟨(i 1).val / 512, by show (i 1).val / 512 < 35; omega⟩
  obtain ⟨e0, e1⟩ := index3 t
  obtain ⟨s0, s1⟩ := size3 t
  have ht : t.val = (i 1).val / 512 := rfl
  unfold cols at s1
  refine ⟨t, flush0_3 t, ?_⟩
  rw [show ((cfg0.win 3).blk t).view.set = (win0_3.rect t).set from View.set_slice_whole _ _, Rect.mem_set_unit]
  intro a
  match a with
  | ⟨0, _⟩ =>
    show win0_3.index t (0 : Fin 2) * 1536 ≤ (i 0).val ∧ (i 0).val < win0_3.index t (0 : Fin 2) * 1536 + win0_3.xsize (grid0.coords t) 0
    omega
  | ⟨1, _⟩ =>
    show win0_3.index t (1 : Fin 2) * 512 ≤ (i 1).val ∧ (i 1).val < win0_3.index t (1 : Fin 2) * 512 + win0_3.xsize (grid0.coords t) 1
    omega

end Cert.KernelIdeal.Windows
-- ==== Proof.IdealRun.lean ====
/- The kernel's run over exact values: every run ends, the three argument arrays end as they began, every semaphore counter
   ends at zero, and the result array holds the sum over all input features. -/
module

public import proofs.«01_k».proof.Proof.IdealWindows
public import Idealize.ShloMosaic.Lib.Claim

@[expose] public section

set_option maxRecDepth 16384

noncomputable section

namespace Cert.KernelIdeal.Run

open Cert.KernelIdeal Cert.KernelIdeal.Gen Cert.KernelIdeal.Windows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A buffer of input 1, and of input 2, at point `t`: the block on the part the array has, `d` past the array's edge. -/
abbrev buf1 (c : Dev nD) (t : Fin cfg0.N) (d : S6208x512.Idx → BitVec 8) : S6208x512.Idx → BitVec 8 :=
  (cfg0.win 1).fill (cfg0.grid.coords t) d (iblk m c 1 t)
abbrev buf2 (c : Dev nD) (t : Fin cfg0.N) (d : S97x1x512.Idx → EReal) : S97x1x512.Idx → EReal :=
  (cfg0.win 2).fill (cfg0.grid.coords t) d (iblk m c 2 t)

/-- The pipeline's data: the arrays as the call finds them, each input's buffer left at its block, the result's buffer at the
    result block of the three. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => buf1 m c t (fun _ => 0)
    | ⟨2, _⟩ => buf2 m c t (fun _ => 0)
    | ⟨3, _⟩ => outBlk (F := Ideal) (iblk m c 0 t) (buf1 m c t (fun _ => 0)) (buf2 m c t (fun _ => 0))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t
    = (cfg0.win 1).fill (cfg0.grid.coords t) (fun _ => (0 : BitVec 8)) (iblk m c 1 t) := by dsimp only [dats]; rfl
theorem after0_2 (c : Dev nD) (t : Fin cfg0.N) : (dats m 0 c).after 2 t
    = (cfg0.win 2).fill (cfg0.grid.coords t) (fun _ => (0 : EReal)) (iblk m c 2 t) := by dsimp only [dats]; rfl
theorem after0_3 (c : Dev nD) (t : Fin cfg0.N) : (dats m 0 c).after 3 t
    = outBlk (F := Ideal) (iblk m c 0 t) (buf1 m c t (fun _ => 0)) (buf2 m c t (fun _ => 0)) := by dsimp only [dats]

/-- Input 0's buffer holds its block when the body starts, -/
theorem before0_0 (c : Dev nD) (t : Fin cfg0.N) (d) : (dats m 0 c).before 0 t d = iblk m c 0 t :=
  before0_0_of m (dats m 0 c) (A_eq m c 0) (after0_0 m c) t d
/-- and inputs 1 and 2 hold theirs on the part the array has. -/
theorem before0_1 (c : Dev nD) (t : Fin cfg0.N) (d) : (dats m 0 c).before 1 t d = buf1 m c t d :=
  ((dats m 0 c).before_fetched 1 t (fetch0_1 t) d).trans (by unfold Dat.fetched Dat.blockOf buf1 iblk; rw [A_eq])
theorem before0_2 (c : Dev nD) (t : Fin cfg0.N) (d) : (dats m 0 c).before 2 t d = buf2 m c t d :=
  ((dats m 0 c).before_fetched 2 t (fetch0_2 t) d).trans (by unfold Dat.fetched Dat.blockOf buf2 iblk; rw [A_eq])

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t)))))

/-- A result block computed from any contents past the arrays' edge is, up to its own part past the edge, the one named. -/
theorem outBlk_loose (c : Dev nD) (t : Fin cfg0.N) (d1 : S6208x512.Idx → BitVec 8) (d2 : S97x1x512.Idx → EReal) :
    (cfg0.win 3).fill (cfg0.grid.coords t) (outBlk (F := Ideal) (iblk m c 0 t) (buf1 m c t d1) (buf2 m c t d2))
        ((cfg0.win 3).cut (cfg0.grid.coords t) ((dats m 0 c).after 3 t))
      = outBlk (F := Ideal) (iblk m c 0 t) (buf1 m c t d1) (buf2 m c t d2) :=
  (cfg0.win 3).fill_congr_cut _ (by
    rw [after0_3]
    exact (cut_outBlk m c t d1 d2).trans (cut_outBlk m c t _ _).symm)

theorem sound_point (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, Window.cut_fill, Window.cut_fill,
    show (dats m 0 c).Φ t.castSucc = Pipeline.ΦA spec0 c from rfl]
  unfold Pipeline.ΦA
  rw [scopedRest0_eq]
  unfold owns
  iintro ⟨⟨⟨%fs, Hs⟩, Hg⟩, Ho, ⟨%d0, %f0, %hf0, H0⟩, ⟨%d1, %f1, %hf1, H1⟩, ⟨%d2, %f2, %hf2, H2⟩, ⟨%d3, %f3, -, H3⟩⟩
  iapply wp_wand_r
  isplitl [H0 H1 H2 H3 Hs]
  · iapply (sound_body Variants.none c none Set.univ (grid0.coords t) _ _ _ _ _ _ _ _ (Memref.whole cc0_scratch0) (Memref.isWhole_whole _) f0 f1 f2 f3 fs)
    isplitl [H0]; · iexact H0
    isplitl [H1]; · iexact H1
    isplitl [H2]; · iexact H2
    isplitl [H3]; · iexact H3
    rw [show (Memref.whole cc0_scratch0).view.set = Finset.univ from View.set_whole _]
    iexact Hs
  iintro %_ ⟨H0, H1, H2, ⟨%g3, H3, %hg3⟩, ⟨%gs, Hs⟩⟩
  isplitl [Hs Hg]
  · isplitl [Hs]
    · iexists gs
      rw [show (Memref.whole cc0_scratch0).view.set = Finset.univ from View.set_whole _]
      iexact Hs
    iexact Hg
  isplitl [Ho]; · iexact Ho
  isplitl [H0]
  · iexists f0; isplitr; · ipureintro; exact hf0
    iexact H0
  isplitl [H1]
  · iexists d1, f1; isplitr; · ipureintro; exact hf1
    iexact H1
  isplitl [H2]
  · iexists d2, f2; isplitr; · ipureintro; exact hf2
    iexact H2
  iexists (outBlk (F := Ideal) (iblk m c 0 t) (buf1 m c t d1) (buf2 m c t d2)), g3
  isplitr
  · ipureintro
    refine Eq.trans ?_ (outBlk_loose m c t d1 d2).symm
    rw [← hf0, ← hf1, ← hf2]
    exact hg3
  iexact H3

/-- The body table's row at point `t`'s buffers is the body as printed. -/
theorem defs₀_row (t : Fin cfg0.N) :
    defs₀ (F := Ideal) .tc cfg0.body (cfg0.bodyArgs t (cfg0.slots t)) = bodyAt0 t := by
  unfold defs₀; rw [Defs.onTc_tc]

/-- The body, at every grid point. -/
theorem body_obligation (c : Dev nD) : BodyObligationLoose (dats m 0 c) (defs₀ (F := Ideal)) Variants.none () Set.univ := fun t => by
  rw [bigSep_W0, bigSep_W0, defs₀_row]
  exact triple_restated (sound_point m c t) rfl .rfl fun _ => .rfl

/-! ## What the arrays hold at the end -/

/-- What point `t` writes back is its block of the result. -/
theorem flushed3_eq (c : Dev nD) (t : Fin cfg0.N) :
    (dats m 0 c).flushed 3 t = ((cfg0.win 3).blk t).view.read (Elt Ideal) (result m c) := by
  show (cfg0.win 3).cut (cfg0.grid.coords t) ((dats m 0 c).after 3 t) = _
  rw [after0_3]
  exact cut_outBlk m c t _ _

/-- The call's array and the result hold equally many elements. -/
theorem casts_v3 : S1536x17792.ShapeCasts S4x384x17792 := by decide

/-- The array the call writes ends at the result; -/
theorem final3 (c : Dev nD) : (dats m 0 c).arrAt 3 cfg0.N = result m c :=
  (dats m 0 c).arrAt_eq_of_cover 3 (result m c) (fun t _ => flushed3_eq m c t) (covered)

/-- the host line after the call gives it the result's shape. -/
theorem W_main_v3 (c : Dev nD) : (Pipeline.afterTail₀ cfgs (dats m) 0 (V0 m) [hostOps1] c main_v3 : S4x384x17792.Idx → EReal)
    = Spec.out (a0 m c) (a1 m c) (a2 m c) := by
  have e : (Pipeline.afterTail₀ cfgs (dats m) 0 (V0 m) [hostOps1] c main_v3 : S4x384x17792.Idx → EReal)
      = shapeCast S4x384x17792 (((dats m 0 c).arrAt 3 cfg0.N : S1536x17792.Idx → EReal)) casts_v3 := by
    unfold Pipeline.afterTail₀
    simp only [hostOps1, List.flatten_cons, List.flatten_nil, List.append_nil]
    after_results
    exact congrArg (fun x : S1536x17792.Idx → EReal => shapeCast S4x384x17792 x casts_v3)
      (Pipeline.withArrays_arr spec0 launch0.win.arr_inj c (V0 m c) (fun w => (dats m 0 c).arrAt w cfg0.N) 3)
  rw [e, final3]
  exact shapeCast_shapeCast _ _ _

set_option backward.isDefEq.respectTransparency.types false in
/-- The run: from any memory with zero counters every run ends, the result at the sum over all input features, the
    arguments as launched, every counter at zero. -/
theorem run : θ_run defs (onTc (τ := τ) (main (F := Ideal))) ⟨m, fun _ => 0, ρ⟩ (fun r => (∀ c : Dev nD,
      r.2.mem ((c.tc : Thread nD τ).loc main_v3) = Spec.out (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)
    (hQ' := fun r h => ⟨fun c =>
      ⟨((h.1 c).2 main_v3 (Pipeline.mem_restRefs_of main_v3 (by decide) (by decide))).trans (W_main_v3 m c),
       ((h.1 c).2 main_arg0 (Pipeline.mem_restRefs_of main_arg0 (by decide) (by decide))).trans (W_main_arg0 m (dats m) c),
       ((h.1 c).1 1).trans (((dats m 0 c).arrAt_in 1 rfl _).trans ((A_eq m c 1).trans (V_main_arg1 m c))),
       ((h.1 c).2 main_arg2 (Pipeline.mem_restRefs_of main_arg2 (by decide) (by decide))).trans (W_main_arg2 m (dats m) c)⟩,
      h.2⟩)

/-- The frame alone: every run ends, the arguments as launched, every counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.KernelIdeal.Run

end
-- ==== Proof.lean ====
/- The certificate's claims, assembled: the three programs run without fault and leave their arguments as they were, the
   ideal program is the kernel read over the extended reals, and the kernel and the reference compute the same array.
   The value both end at is `Spec.out` (Proof/Spec.lean): for each row and column the sum over all 12416 input features of
   the activation times the dequantised weight. -/
module

public import proofs.«01_k».proof.Proof.RefValue
public import proofs.«01_k».proof.Proof.KernelRun
public import proofs.«01_k».proof.Proof.IdealRun
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel and the reference, from memories that agree on the arguments, end with equal results: both at `Spec.out` of
    the arguments. -/
theorem algebraic : Cert.algebraic_KernelIdeal_ReferenceIdeal := fun m g m' g' _ hargs =>
  ⟨fun c => Spec.out (KernelIdeal.Windows.a0 m c) (KernelIdeal.Windows.a1 m c) (KernelIdeal.Windows.a2 m c),
    (θ_run _ _ _).mono (fun _ h => h.1) (KernelIdeal.Run.run m g),
    (θ_run _ _ _).mono (fun r h c => ⟨(h c).1.trans (by rw [(hargs c).1, (hargs c).2.1, (hargs c).2.2]), (h c).2⟩)
      (ReferenceIdeal.RefValue.run m' g')⟩

/-- Every claim of the certificate. -/
theorem claim : Cert.Claim := ⟨Cert.Kernel.Gen.facts, Cert.KernelIdeal.Gen.facts, Cert.ReferenceIdeal.Gen.facts,
  fun m g _ => Kernel.Run.quiescent m g, fun m g _ => KernelIdeal.Run.quiescent m g,
  fun m g _ => ReferenceIdeal.RefValue.quiescent m g, trivial, algebraic⟩

end Cert.Proof

end
